-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_ids [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_ids [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_ids m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sorted_ids [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_ids m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel)
    ∧ quiescent_KernelIdeal (hKernelIdeal := hKernelIdeal)
    ∧ quiescent_KernelIdeal_pre_sorted_ids (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal_pre_sorted_ids (hKernelIdeal := hKernelIdeal) (hReferenceIdeal := hReferenceIdeal) (hPre_sorted_ids := hPre_sorted_ids)
-- ==== Pre_sorted_ids.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S256x128 : Shape := ⟨2, ![256, 128]⟩
abbrev S128 : Shape := ⟨1, ![128]⟩
abbrev S99999 : Shape := ⟨1, ![99999]⟩
abbrev S_ : Shape := ⟨0, ![]⟩

class Facts : Prop where
  slices_S100000_S99999_0 : S100000.Slices ![0] S99999
  slices_S100000_S99999_1 : S100000.Slices ![1] S99999
  reducesTo_S99999_S_d0 : S99999.ReducesTo [0] S_
  h_S_ : 0 < S_.numel

variable [Facts]

def fn {F : FTy → Type} [FloatOps F] (main_arg0 : FVec F S100000x128 .f32) (main_arg1 : IVec S100000 32) (main_arg2 : FVec F S128x1 .f32) (main_arg3 : FVec F S1 .f32) (main_arg4 : FVec F S256x128 .f32) (main_arg5 : FVec F S128 .f32) : IVec S_ 1 :=
  let main_v0 : IVec S99999 32 := (extractStridedSlice S99999 ![0] · slices_S100000_S99999_0) main_arg1
  let main_v1 : IVec S99999 32 := (extractStridedSlice S99999 ![1] · slices_S100000_S99999_1) main_arg1
  let main_v2 : IVec S99999 1 := cmpi .sle main_v0 main_v1
  let main_c : IVec S_ 1 := constantI S_ 1 1#1
  let main_v3 : IVec S_ 1 := (fun x v => Host.reduce IntOp.andi x v reducesTo_S99999_S_d0 h_S_) main_v2 main_c
  main_v3
-- ==== Kernel.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S256x128 : Shape := ⟨2, ![256, 128]⟩
abbrev S128 : Shape := ⟨1, ![128]⟩
abbrev S_ : Shape := ⟨0, ![]⟩
abbrev S100352x128 : Shape := ⟨2, ![100352, 128]⟩
abbrev S100352 : Shape := ⟨1, ![100352]⟩
abbrev S196x1x512 : Shape := ⟨3, ![196, 1, 512]⟩
abbrev S1x128 : Shape := ⟨2, ![1, 128]⟩
abbrev S1x1 : Shape := ⟨2, ![1, 1]⟩
abbrev S1024x128 : Shape := ⟨2, ![1024, 128]⟩
abbrev S1x1x512 : Shape := ⟨3, ![1, 1, 512]⟩
abbrev S512x128 : Shape := ⟨2, ![512, 128]⟩
abbrev S512 : Shape := ⟨1, ![512]⟩
abbrev S512x1 : Shape := ⟨2, ![512, 1]⟩
abbrev S1024x1 : Shape := ⟨2, ![1024, 1]⟩
abbrev S1x512 : Shape := ⟨2, ![1, 512]⟩
abbrev S1024x512 : Shape := ⟨2, ![1024, 512]⟩
abbrev S511x128 : Shape := ⟨2, ![511, 128]⟩
abbrev S511x1 : Shape := ⟨2, ![511, 1]⟩
abbrev S2x128 : Shape := ⟨2, ![2, 128]⟩
abbrev S510x128 : Shape := ⟨2, ![510, 128]⟩
abbrev S2x1 : Shape := ⟨2, ![2, 1]⟩
abbrev S510x1 : Shape := ⟨2, ![510, 1]⟩
abbrev S4x128 : Shape := ⟨2, ![4, 128]⟩
abbrev S508x128 : Shape := ⟨2, ![508, 128]⟩
abbrev S4x1 : Shape := ⟨2, ![4, 1]⟩
abbrev S508x1 : Shape := ⟨2, ![508, 1]⟩
abbrev S8x128 : Shape := ⟨2, ![8, 128]⟩
abbrev S504x128 : Shape := ⟨2, ![504, 128]⟩
abbrev S8x1 : Shape := ⟨2, ![8, 1]⟩
abbrev S504x1 : Shape := ⟨2, ![504, 1]⟩
abbrev S16x128 : Shape := ⟨2, ![16, 128]⟩
abbrev S496x128 : Shape := ⟨2, ![496, 128]⟩
abbrev S16x1 : Shape := ⟨2, ![16, 1]⟩
abbrev S496x1 : Shape := ⟨2, ![496, 1]⟩
abbrev S32x128 : Shape := ⟨2, ![32, 128]⟩
abbrev S480x128 : Shape := ⟨2, ![480, 128]⟩
abbrev S32x1 : Shape := ⟨2, ![32, 1]⟩
abbrev S480x1 : Shape := ⟨2, ![480, 1]⟩
abbrev S64x128 : Shape := ⟨2, ![64, 128]⟩
abbrev S448x128 : Shape := ⟨2, ![448, 128]⟩
abbrev S64x1 : Shape := ⟨2, ![64, 1]⟩
abbrev S448x1 : Shape := ⟨2, ![448, 1]⟩
abbrev S128x128 : Shape := ⟨2, ![128, 128]⟩
abbrev S384x128 : Shape := ⟨2, ![384, 128]⟩
abbrev S384x1 : Shape := ⟨2, ![384, 1]⟩
abbrev S256x1 : Shape := ⟨2, ![256, 1]⟩
abbrev S1024 : Shape := ⟨1, ![1024]⟩
abbrev S1024x256 : Shape := ⟨2, ![1024, 256]⟩

abbrev nBuf : Space → Nat
  | .hbm => 17
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S_, .f32⟩
  | .hbm, ⟨8, _⟩ => ⟨S100352x128, .f32⟩
  | .hbm, ⟨9, _⟩ => ⟨S_, .i32⟩
  | .hbm, ⟨10, _⟩ => ⟨S_, .i32⟩
  | .hbm, ⟨11, _⟩ => ⟨S100352, .i32⟩
  | .hbm, ⟨12, _⟩ => ⟨S196x1x512, .i32⟩
  | .hbm, ⟨13, _⟩ => ⟨S1x128, .f32⟩
  | .hbm, ⟨14, _⟩ => ⟨S1x1, .f32⟩
  | .hbm, ⟨15, _⟩ => ⟨S1x128, .f32⟩
  | .hbm, ⟨16, _⟩ => ⟨S1024x128, .f32⟩
  | .local _ .vmem, ⟨0, _⟩ => ⟨S1x1x512, .i32⟩
  | .local _ .vmem, ⟨1, _⟩ => ⟨S1x1x512, .i32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x1, .f32⟩
  | .local _ .vmem, ⟨6, _⟩ => ⟨S256x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![196], ![false]⟩

def k0_cond2 (i : grid0.Coords) : BitVec 1 :=
  let arg0 : BitVec 32 := BitVec.ofNat 32 (i 0).val
  let c195_i32 : BitVec 32 := 195#32
  let v163 : BitVec 1 := Scalar.cmpi .eq arg0 c195_i32
  let v164 : BitVec 32 := Scalar.extui v163
  let c0_i32_43 : BitVec 32 := 0#32
  let v165 : BitVec 1 := Scalar.cmpi .ne v164 c0_i32_43
  v165

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S256x128 : Shape := ⟨2, ![256, 128]⟩
abbrev S128 : Shape := ⟨1, ![128]⟩
abbrev S100000x1 : Shape := ⟨2, ![100000, 1]⟩
abbrev S1x1 : Shape := ⟨2, ![1, 1]⟩
abbrev S_ : Shape := ⟨0, ![]⟩
abbrev S1024x128 : Shape := ⟨2, ![1024, 128]⟩
abbrev S1x100000x1 : Shape := ⟨3, ![1, 100000, 1]⟩
abbrev S1024 : Shape := ⟨1, ![1024]⟩
abbrev S1024x1x1 : Shape := ⟨3, ![1024, 1, 1]⟩
abbrev S1024x100000x1 : Shape := ⟨3, ![1024, 100000, 1]⟩
abbrev S1x100000x128 : Shape := ⟨3, ![1, 100000, 128]⟩
abbrev S1024x100000x128 : Shape := ⟨3, ![1024, 100000, 128]⟩
abbrev S1024x256 : Shape := ⟨2, ![1024, 256]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S256x128, .f32⟩
  | .hbm, ⟨5, _⟩ => ⟨S128, .f32⟩
  | .hbm, ⟨6, _⟩ => ⟨S100000x1, .f32⟩
  | .hbm, ⟨7, _⟩ => ⟨S1x1, .f32⟩
  | .hbm, ⟨8, _⟩ => ⟨S100000x1, .f32⟩
  | .hbm, ⟨9, _⟩ => ⟨S100000x1, .f32⟩
  | .hbm, ⟨10, _⟩ => ⟨S100000x1, .f32⟩
  | .hbm, ⟨11, _⟩ => ⟨S100000x1, .f32⟩
  | .hbm, ⟨12, _⟩ => ⟨S_, .f32⟩
  | .hbm, ⟨13, _⟩ => ⟨S100000x1, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S1024x128, .f32⟩
  | .hbm, ⟨22, _⟩ => ⟨S100000x1, .i32⟩
  | .hbm, ⟨23, _⟩ => ⟨S1024x128, .f32⟩
  | .hbm, ⟨24, _⟩ => ⟨S1x100000x1, .i32⟩
  | .hbm, ⟨25, _⟩ => ⟨S1024, .i32⟩
  | .hbm, ⟨26, _⟩ => ⟨S1024x1x1, .i32⟩
  | .hbm, ⟨27, _⟩ => ⟨S1024x100000x1, .i32⟩
  | .hbm, ⟨28, _⟩ => ⟨S1024x100000x1, .i32⟩
  | .hbm, ⟨29, _⟩ => ⟨S1024x100000x1, .i1⟩
  | .hbm, ⟨30, _⟩ => ⟨S1x100000x128, .f32⟩
  | .hbm, ⟨31, _⟩ => ⟨S_, .f32⟩
  | .hbm, ⟨32, _⟩ => ⟨S_, .f32⟩
  | .hbm, ⟨33, _⟩ => ⟨S1024x100000x128, .i1⟩
  | .hbm, ⟨34, _⟩ => ⟨S1024x100000x128, .f32⟩
  | .hbm, ⟨35, _⟩ => ⟨S1024x100000x128, .f32⟩
  | .hbm, ⟨36, _⟩ => ⟨S1024x100000x128, .f32⟩
  | .hbm, ⟨37, _⟩ => ⟨S_, .f32⟩
  | .hbm, ⟨38, _⟩ => ⟨S1024x128, .f32⟩
  | .hbm, ⟨39, _⟩ => ⟨S1024x256, .f32⟩
  | .hbm, ⟨40, _⟩ => ⟨S1024x128, .f32⟩
  | .hbm, ⟨41, _⟩ => ⟨S1x128, .f32⟩
  | .hbm, ⟨42, _⟩ => ⟨S1024x128, .f32⟩
  | .hbm, ⟨43, _⟩ => ⟨S1024x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Cases.lean ====
/-
  What one run of the kernel's body leaves in its two accumulators and in the output block, as functions of the blocks it reads.
  The first point starts the accumulators (zeros for the sums, −∞ for the maxima), every point takes one step from what the point before left,
  and the last point also writes the output block from the accumulators it has just written.
-/
module

public import proofs.«01_k».proof.Proof.Gen.KernelIdeal.Frame
public import Idealize.ShloMosaic.Lib.Tactic
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- One step of the sums: the accumulator plus this block's weighted rows, each row added to its segment. -/
def sumStep (x0 : Vec F S1x1x512 .i32) (x1 : Vec F S512x128 .f32) (x2 : Vec F S1x128 .f32) (x3 : Vec F S1x1 .f32) (acc : Vec F S1024x128 .f32) : Vec F S1024x128 .f32 :=
  k0_pay8 x1 x0 x2 x3 acc

/-- The running maximum of a block's rows within each run of equal ids. -/
def scanned (x0 : Vec F S1x1x512 .i32) (x1 : Vec F S512x128 .f32) : FVec F S512x128 .f32 :=
  k0_pay13 (k0_pay9 x0) (k0_pay12 (k0_pay5 x1) (k0_pay9 x0) (k0_pay10 x1) k0_pay11) (Scalar.ofBits .f32 0xFF800000#32)

/-- One step of the maxima: the accumulator joined with the last row of each run of the block. -/
def maxStep (x0 : Vec F S1x1x512 .i32) (x1 : Vec F S512x128 .f32) (acc : Vec F S1024x128 .f32) : Vec F S1024x128 .f32 :=
  k0_pay1 (k0_pay7 x0) (scanned x0 x1) (k0_pay14 (k0_pay9 x0)) (k0_pay15 (k0_pay9 x0)) acc acc

theorem hz : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (a1 : Memref sig .tc .vmem S1x1x512 .i32) (h1 : a1.IsWhole) (a2 : Memref sig .tc .vmem S512x128 .f32) (h2 : a2.IsWhole)
  (a3 : Memref sig .tc .vmem S1x128 .f32) (h3 : a3.IsWhole) (a4 : Memref sig .tc .vmem S1x1 .f32) (h4 : a4.IsWhole)
  (a5 : Memref sig .tc .vmem S256x128 .f32) (h5 : a5.IsWhole) (a6 : Memref sig .tc .vmem S1x128 .f32) (h6 : a6.IsWhole)
  (a7 : Memref sig .tc .vmem S1024x128 .f32) (h7 : a7.IsWhole) (a8 : Memref sig .tc .vmem S1024x128 .f32) (h8 : a8.IsWhole)
  (a9 : Memref sig .tc .vmem S1024x128 .f32) (h9 : a9.IsWhole)
  (x0 : Vec F S1x1x512 .i32) (x1 : Vec F S512x128 .f32) (x2 : Vec F S1x128 .f32) (x3 : Vec F S1x1 .f32) (x4 : Vec F S256x128 .f32) (x5 : Vec F S1x128 .f32)
  (xs0 xs1 : Vec F S1024x128 .f32)

/-- The first point leaves in the sums one step from zeros. -/
theorem sum_A (hc0 : cond0_0 i) (hc1 : ¬cond0_1 i) :
    sout0_A_0 c i a1 h1 a2 h2 a3 h3 a4 h4 a5 h5 a6 h6 a7 h7 a8 h8 a9 h9 hc0 hc1 x0 x1 x2 x3 x4 x5 = sumStep x0 x1 x2 x3 k0_pay3 := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x128) hz, View.readCov_unit_zero (S := S1024x128) _ hz]
  simp only [View.readAt_eq_ld, h1.read_unread, h2.read_unread, h3.read_unread, h4.read_unread, View.ld_unit_zero (S := S1x1x512) hz3,
    View.ld_unit_zero (S := S512x128) hz, View.ld_unit_zero (S := S1x128) hz, View.ld_unit_zero (S := S1x1) hz]
  rfl

/-- The first point leaves in the maxima one step from −∞. -/
theorem max_A (hc0 : cond0_0 i) (hc1 : ¬cond0_1 i) :
    sout0_A_1 c i a1 h1 a2 h2 a3 h3 a4 h4 a5 h5 a6 h6 a7 h7 a8 h8 a9 h9 hc0 hc1 x0 x1 x2 x3 x4 x5 = maxStep x0 x1 k0_pay4 := by
  unfold sout0_A_1
  rw [View.read_writes_eq_canon _ _ _ (scover0_A_1 c i a1 h1 a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x128) hz]
  simp only [View.readCov_unit_zero (S := S1024x128) _ hz, View.readAt_eq_ld, h1.read_unread, h2.read_unread, View.ld_unit_zero (S := S1x1x512) hz3,
    View.ld_unit_zero (S := S512x128) hz]
  rfl

/-- A middle point leaves in the sums one step from what the point before left. -/
theorem sum_B (hc0 : ¬cond0_0 i) (hc1 : ¬cond0_1 i) :
    sout0_B_0 c i a1 h1 a2 h2 a3 h3 a4 h4 a5 h5 a6 h6 a7 h7 a8 h8 a9 h9 hc0 hc1 x0 x1 x2 x3 x4 x5 xs0 xs1 = sumStep x0 x1 x2 x3 xs0 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 xs0 xs1)]
  unfold kernelRun0_B
  dsimp only
  sl_unfold_words
  rw [View.canon_unit_zero (S := S1024x128) hz]
  simp only [View.readAt_eq_ld, h1.read_unread, h2.read_unread, h3.read_unread, h4.read_unread, h8.read_unread, View.ld_unit_zero (S := S1x1x512) hz3,
    View.ld_unit_zero (S := S512x128) hz, View.ld_unit_zero (S := S1x128) hz, View.ld_unit_zero (S := S1x1) hz, View.ld_unit_zero (S := S1024x128) hz]
  rfl

/-- A middle point leaves in the maxima one step from what the point before left. -/
theorem max_B (hc0 : ¬cond0_0 i) (hc1 : ¬cond0_1 i) :
    sout0_B_1 c i a1 h1 a2 h2 a3 h3 a4 h4 a5 h5 a6 h6 a7 h7 a8 h8 a9 h9 hc0 hc1 x0 x1 x2 x3 x4 x5 xs0 xs1 = maxStep x0 x1 xs1 := by
  unfold sout0_B_1
  rw [View.read_writes_eq_canon _ _ _ (scover0_B_1 c i a1 h1 a2 h2 a3 h3 a4 h4 a5 h5 a6 h6 a7 h7 a8 h8 a9 h9 hc0 hc1 x0 x1 x2 x3 x4 x5 xs0 xs1)]
  unfold kernelRun0_B
  dsimp only
  sl_unfold_words
  rw [View.canon_unit_zero (S := S1024x128) hz]
  simp only [View.readAt_eq_ld, h1.read_unread, h2.read_unread, h9.read_unread, View.ld_unit_zero (S := S1x1x512) hz3,
    View.ld_unit_zero (S := S512x128) hz, View.ld_unit_zero (S := S1024x128) hz]
  rfl

/-- The last point leaves in the output block the accumulators, one step on, side by side, times the weights, plus the bias. -/
theorem out_C (hc0 : ¬cond0_0 i) (hc1 : cond0_1 i) :
    out0_C_6 c i a1 h1 a2 h2 a3 h3 a4 h4 a5 h5 a6 h6 a7 h7 a8 h8 a9 h9 hc0 hc1 x0 x1 x2 x3 x4 x5 xs0 xs1
      = k0_pay2 (sumStep x0 x1 x2 x3 xs0) (maxStep x0 x1 xs1) x4 x5 := by
  unfold out0_C_6
  rw [View.read_writes_eq_canon _ _ _ (cover0_C_6 c i a1 h1 a2 h2 a3 h3 a4 h4 a5 h5 a6 h6 a7 h7 a8 h8 a9 h9 hc0 hc1 x0 x1 x2 x3 x4 x5 xs0 xs1)]
  unfold kernelRun0_C
  dsimp only
  sl_unfold_words
  rw [View.canon_unit_zero (S := S1024x128) hz]
  simp only [View.readCov_unit_zero (S := S1024x128) _ hz, View.readAt_eq_ld, h1.read_unread, h2.read_unread, h3.read_unread, h4.read_unread, h5.read_unread,
    h6.read_unread, h8.read_unread, h9.read_unread, View.ld_unit_zero (S := S1x1x512) hz3,
    View.ld_unit_zero (S := S512x128) hz, View.ld_unit_zero (S := S1x128) hz, View.ld_unit_zero (S := S1x1) hz, View.ld_unit_zero (S := S1024x128) hz,
    View.ld_unit_zero (S := S256x128) hz]
  rfl

end

end Cert.KernelIdeal.Hand

end
-- ==== Proof.Scan.lean ====
/-
  The running maximum within runs of equal ids. A block of 512 rows is swept nine times, at shifts 1, 2, 4, …, 256: at each sweep a row takes the larger of itself and
  the row that many places above it, when the two rows have the same id. For an id whose rows stand together, after the sweep at shift `w` each of its rows is the
  maximum over the rows of that id among itself and the `2 w - 1` rows above it; after the nine sweeps, over all rows of that id from the block's start.
-/
module

public import proofs.«01_k».proof.Proof.Cases
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pointwise

/-- The rows with id `s` stand together: between two of them every row has id `s`. -/
def Together (ids : Fin 512 → BitVec 32) (s : BitVec 32) : Prop :=
  ∀ i k l : Fin 512, i ≤ k → k ≤ l → ids i = s → ids l = s → ids k = s

/-- `y` holds, at each row with id `s`, the maximum of `x` over the rows with id `s` among that row and the `w - 1` rows above it. -/
def RunMax (w : Nat) (ids : Fin 512 → BitVec 32) (s : BitVec 32) (x y : Fin 512 → EReal) : Prop :=
  ∀ p, ids p = s → ∀ b, y p ≤ b ↔ ∀ q : Fin 512, q ≤ p → p.val < q.val + w → ids q = s → x q ≤ b

/-- Every array is its own running maximum over windows of one row. -/
theorem runMax_one (ids : Fin 512 → BitVec 32) (s : BitVec 32) (x : Fin 512 → EReal) : RunMax 1 ids s x x := by
  intro p hp b
  constructor
  · intro h q hq hq' _
    have e : q = p := Fin.ext (by have : q.val ≤ p.val := hq; omega)
    rw [e]; exact h
  · intro h
    exact h p le_rfl (by omega) hp

/-- One sweep at shift `w` doubles the window. -/
theorem RunMax.double {w : Nat} {ids : Fin 512 → BitVec 32} {s : BitVec 32} {x y z : Fin 512 → EReal} (hs : s ≠ 4294967295#32) (ht : Together ids s)
    (hy : RunMax w ids s x y)
    (hz : ∀ p : Fin 512, z p = if ids p = (if h : p.val < w then 4294967295#32 else ids ⟨p.val - w, by omega⟩)
      then max (y p) (if h : p.val < w then ⊥ else y ⟨p.val - w, by omega⟩) else y p) : RunMax (w + w) ids s x z := by
  intro p hp b
  rw [hz p]
  by_cases hw : p.val < w
  · rw [dif_pos hw, if_neg (by rw [hp]; exact hs), hy p hp b]
    constructor
    · intro h q hq _ hi; exact h q hq (by omega) hi
    · intro h q hq _ hi; exact h q hq (by omega) hi
  · rw [dif_neg hw, dif_neg hw, hp]
    by_cases hq0 : s = ids ⟨p.val - w, by omega⟩
    · rw [if_pos hq0, max_le_iff, hy p hp b, hy _ hq0.symm b]
      constructor
      · rintro ⟨h1, h2⟩ q hq hq' hi
        have hq : q.val ≤ p.val := hq
        by_cases hc : p.val < q.val + w
        · exact h1 q hq hc hi
        · exact h2 q (show q.val ≤ p.val - w by omega) (show p.val - w < q.val + w by omega) hi
      · intro h
        refine ⟨fun q hq hq' hi => h q hq (by omega) hi, fun q hq hq' hi => ?_⟩
        have hq : q.val ≤ p.val - w := hq
        have hq' : p.val - w < q.val + w := hq'
        exact h q (show q.val ≤ p.val by omega) (by omega) hi
    · rw [if_neg hq0, hy p hp b]
      constructor
      · intro h q hq hq' hi
        have hq : q.val ≤ p.val := hq
        by_cases hc : p.val < q.val + w
        · exact h q hq hc hi
        · exact (hq0 (ht q ⟨p.val - w, by omega⟩ p (show q.val ≤ p.val - w by omega) (show p.val - w ≤ p.val by omega) hi hp).symm).elim
      · intro h q hq hq' hi; exact h q hq (by omega) hi

variable {F : FTy → Type} [FloatOps F]

/-- One sweep of a block, at shift `s` (with `r = 512 - s` rows that have a row `s` places above them). -/
def sweep (s r : Nat) (hx : S512x128.Slices ![0, 0] ⟨2, ![r, 128]⟩) (hi : S512x1.Slices ![0, 0] ⟨2, ![r, 1]⟩)
    (cx : Shape.Concatenates [⟨2, ![s, 128]⟩, ⟨2, ![r, 128]⟩] S512x128 0) (ci : Shape.Concatenates [⟨2, ![s, 1]⟩, ⟨2, ![r, 1]⟩] S512x1 0)
    (ids : IVec S512x1 32) (x : FVec F S512x128 .f32) : FVec F S512x128 .f32 :=
  select (broadcastTo S512x128 (shapeCast S512x1 (cmpi .eq ids (concatenate S512x1 0 [⟨⟨2, ![s, 1]⟩, broadcast ⟨2, ![s, 1]⟩ 4294967295#32⟩,
      ⟨⟨2, ![r, 1]⟩, extractStridedSlice ⟨2, ![r, 1]⟩ ![0, 0] ids hi⟩] ci)) shapeCasts_S512x1_S512x1) broadcasts_S512x1_S512x128)
    (maximumf x (concatenate S512x128 0 [⟨⟨2, ![s, 128]⟩, broadcast ⟨2, ![s, 128]⟩ (Scalar.ofBits (F := F) .f32 0xFF800000#32)⟩,
      ⟨⟨2, ![r, 128]⟩, extractStridedSlice ⟨2, ![r, 128]⟩ ![0, 0] x hx⟩] cx)) x

/-- The nine sweeps are one after another the sweep at shifts 1, 2, 4, …, 256. -/
theorem scanned_eq (x0 : Vec F S1x1x512 .i32) (x1 : Vec F S512x128 .f32) : scanned x0 x1 =
    sweep 256 256 slices_S512x128_o0_0_S256x128 slices_S512x1_o0_0_S256x1 concatenates_S256x128_S256x128_S512x128_d0 concatenates_S256x1_S256x1_S512x1_d0 (k0_pay9 x0) (
    sweep 128 384 slices_S512x128_o0_0_S384x128 slices_S512x1_o0_0_S384x1 concatenates_S128x128_S384x128_S512x128_d0 concatenates_S128x1_S384x1_S512x1_d0 (k0_pay9 x0) (
    sweep 64 448 slices_S512x128_o0_0_S448x128 slices_S512x1_o0_0_S448x1 concatenates_S64x128_S448x128_S512x128_d0 concatenates_S64x1_S448x1_S512x1_d0 (k0_pay9 x0) (
    sweep 32 480 slices_S512x128_o0_0_S480x128 slices_S512x1_o0_0_S480x1 concatenates_S32x128_S480x128_S512x128_d0 concatenates_S32x1_S480x1_S512x1_d0 (k0_pay9 x0) (
    sweep 16 496 slices_S512x128_o0_0_S496x128 slices_S512x1_o0_0_S496x1 concatenates_S16x128_S496x128_S512x128_d0 concatenates_S16x1_S496x1_S512x1_d0 (k0_pay9 x0) (
    sweep 8 504 slices_S512x128_o0_0_S504x128 slices_S512x1_o0_0_S504x1 concatenates_S8x128_S504x128_S512x128_d0 concatenates_S8x1_S504x1_S512x1_d0 (k0_pay9 x0) (
    sweep 4 508 slices_S512x128_o0_0_S508x128 slices_S512x1_o0_0_S508x1 concatenates_S4x128_S508x128_S512x128_d0 concatenates_S4x1_S508x1_S512x1_d0 (k0_pay9 x0) (
    sweep 2 510 slices_S512x128_o0_0_S510x128 slices_S512x1_o0_0_S510x1 concatenates_S2x128_S510x128_S512x128_d0 concatenates_S2x1_S510x1_S512x1_d0 (k0_pay9 x0) (
    sweep 1 511 slices_S512x128_o0_0_S511x128 slices_S512x1_o0_0_S511x1 concatenates_S1x128_S511x128_S512x128_d0 concatenates_S1x1_S511x1_S512x1_d0 (k0_pay9 x0) (
      k0_pay5 x1))))))))) := rfl

/-- The word `0xFF800000` is −∞. -/
theorem negInf : Ideal.ofBits .f32 0xFF800000#32 = ⊥ := by simp [Ideal.ofBits, Ideal.ieee]

/-- A choice by the equality of two words. -/
theorem select_cmpi_eq {α : Type} (a b : BitVec 32) (x y : α) : Scalar.select (IntOp.cmpi .eq a b) x y = if a = b then x else y := by
  rw [WordCmp.cmpi_eq_eq]
  by_cases h : a = b <;> simp [Scalar.select, h]

/-- A sweep read at one element. -/
theorem sweep_apply (s r : Nat) (hx : S512x128.Slices ![0, 0] ⟨2, ![r, 128]⟩) (hi : S512x1.Slices ![0, 0] ⟨2, ![r, 1]⟩)
    (cx : Shape.Concatenates [⟨2, ![s, 128]⟩, ⟨2, ![r, 128]⟩] S512x128 0) (ci : Shape.Concatenates [⟨2, ![s, 1]⟩, ⟨2, ![r, 1]⟩] S512x1 0)
    (ids : IVec S512x1 32) (x : FVec Ideal S512x128 .f32) (p : Fin 512) (d : Fin 128) :
    sweep s r hx hi cx ci ids x (ix2 p d) = if ids (ix2 p 0) = (if h : p.val < s then 4294967295#32 else ids (ix2 ⟨p.val - s, by omega⟩ 0))
      then max (x (ix2 p d)) (if h : p.val < s then ⊥ else x (ix2 ⟨p.val - s, by omega⟩ d)) else x (ix2 p d) := by
  pointwise [sweep]
  simp only [Shape.Idx.norm_def, if_true, one_ne_zero, if_false, Fin.val_one, negInf, select_cmpi_eq, Fin.eta, Fin.val_zero]
  rfl

/-- The ids of a block, row by row. -/
abbrev idOf (x0 : Vec Ideal S1x1x512 .i32) (p : Fin 512) : BitVec 32 := x0 (ix3 0 0 p)

/-- The ids as a column. -/
theorem column_apply (x0 : Vec Ideal S1x1x512 .i32) (p : Fin 512) : k0_pay9 (F := Ideal) x0 (ix2 p 0) = idOf x0 p := by
  pointwise [k0_pay9, k0_pay6]

/-- The nine sweeps leave at each row with id `s` the maximum over the rows with id `s` from the block's start down to it. -/
theorem scanned_runMax (x0 : Vec Ideal S1x1x512 .i32) (x1 : Vec Ideal S512x128 .f32) (s : BitVec 32) (hs : s ≠ 4294967295#32) (ht : Together (idOf x0) s)
    (d : Fin 128) : RunMax 512 (idOf x0) s (fun p => x1 (ix2 p d)) (fun p => scanned x0 x1 (ix2 p d)) := by
  have h0 : RunMax 1 (idOf x0) s (fun p => x1 (ix2 p d)) (fun p => k0_pay5 (F := Ideal) x1 (ix2 p d)) := by
    have e : k0_pay5 (F := Ideal) x1 = x1 := by unfold k0_pay5; exact shapeCast_id _ _
    rw [e]; exact runMax_one _ _ _
  rw [scanned_eq]
  have step : ∀ {w r : Nat} {y : FVec Ideal S512x128 .f32} (hx hi cx ci), RunMax w (idOf x0) s (fun p => x1 (ix2 p d)) (fun p => y (ix2 p d)) →
      RunMax (w + w) (idOf x0) s (fun p => x1 (ix2 p d)) (fun p => sweep w r hx hi cx ci (k0_pay9 (F := Ideal) x0) y (ix2 p d)) := by
    intro w r y hx hi cx ci h
    refine h.double hs ht fun p => ?_
    rw [sweep_apply]
    simp only [column_apply]
  exact step _ _ _ _ (step _ _ _ _ (step _ _ _ _ (step _ _ _ _ (step _ _ _ _ (step _ _ _ _ (step _ _ _ _ (step _ _ _ _ (step _ _ _ _ h0))))))))

end Cert.KernelIdeal.Hand

end
-- ==== Proof.Step.lean ====
/-
  What one step does to the two accumulators, read at a segment `s` and a feature `d`: the sums gain the weighted rows of the block with id `s`,
  and the maxima are joined with the block's rows with id `s`, provided those rows stand together.
-/
module

public import proofs.«01_k».proof.Proof.Scan

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pointwise

/-- The id word of a segment. -/
abbrev seg (s : Fin 1024) : BitVec 32 := BitVec.ofNat 32 s.val

/-- No segment's id is the word −1, which the kernel uses where a row has no neighbour. -/
theorem seg_ne (s : Fin 1024) : seg s ≠ 4294967295#32 := by
  intro h
  have := congrArg BitVec.toNat h
  simp only [BitVec.toNat_ofNat] at this
  have := s.isLt
  omega

/-- A decided proposition as a float is 1 or 0. -/
theorem sitofp_decide (P : Prop) [Decidable P] : FloatOps.sitofp (F := Ideal) .f32 (BitVec.setWidth 32 (BitVec.ofBool (decide P))) = if P then (1 : EReal) else 0 := by
  by_cases h : P
  · simp only [h, decide_true, if_true]
    show (((BitVec.setWidth 32 (BitVec.ofBool true)).toInt : ℝ) : EReal) = 1
    rw [show (BitVec.setWidth 32 (BitVec.ofBool true)).toInt = 1 by decide]
    norm_num
  · simp only [h, decide_false, if_false]
    show (((BitVec.setWidth 32 (BitVec.ofBool false)).toInt : ℝ) : EReal) = 0
    rw [show (BitVec.setWidth 32 (BitVec.ofBool false)).toInt = 0 by decide]
    norm_num

/-- The membership matrix: 1 where the row's id is the segment, 0 elsewhere. -/
theorem member_apply (x0 : Vec Ideal S1x1x512 .i32) (s : Fin 1024) (p : Fin 512) :
    k0_pay7 (F := Ideal) x0 (ix2 s p) = if idOf x0 p = seg s then (1 : EReal) else 0 := by
  pointwise [k0_pay7, k0_pay6]
  rw [WordCmp.cmpi_eq_eq, sitofp_decide]

/-- The id in the row below, −1 at the block's last row. -/
def below (ids : Fin 512 → BitVec 32) (p : Fin 512) : BitVec 32 := if h : p.val < 511 then ids ⟨1 + p.val, by omega⟩ else 4294967295#32

/-- The mark of a run's last row: 1 where the row below has another id, 0 elsewhere. -/
theorem last_apply (x0 : Vec Ideal S1x1x512 .i32) (p : Fin 512) :
    k0_pay14 (F := Ideal) (k0_pay9 (F := Ideal) x0) (ix2 p 0) = if idOf x0 p ≠ below (idOf x0) p then (1 : EReal) else 0 := by
  pointwise [k0_pay14]
  rw [WordCmp.cmpi_ne_eq, sitofp_decide]
  simp only [column_apply]
  rfl

/-- The same marks as a row. -/
theorem last_row_apply (x0 : Vec Ideal S1x1x512 .i32) (p : Fin 512) :
    k0_pay15 (F := Ideal) (k0_pay9 (F := Ideal) x0) (ix2 0 p) = if idOf x0 p ≠ below (idOf x0) p then (1 : EReal) else 0 := by
  rw [← last_apply]
  pointwise [k0_pay15]

/-- When the rows with id `s` stand together and `e` is the last of them, `e` is the only row with id `s` whose lower neighbour has another id. -/
theorem member_last_iff {ids : Fin 512 → BitVec 32} {s : BitVec 32} (hs : s ≠ 4294967295#32) (ht : Together ids s) {e : Fin 512} (he : ids e = s)
    (hl : ∀ q, ids q = s → q ≤ e) (p : Fin 512) : (ids p = s ∧ ids p ≠ below ids p) ↔ p = e := by
  constructor
  · rintro ⟨hp, hb⟩
    have hpe : p.val ≤ e.val := hl p hp
    by_contra hne
    have hlt : p.val < e.val := lt_of_le_of_ne hpe fun h => hne (Fin.ext h)
    have := e.isLt
    refine hb ?_
    unfold below
    rw [dif_pos (by omega), hp]
    exact (ht p ⟨1 + p.val, by omega⟩ e (show p.val ≤ 1 + p.val by omega) (show 1 + p.val ≤ e.val by omega) hp he).symm
  · rintro rfl
    refine ⟨he, fun hb => ?_⟩
    unfold below at hb
    split at hb
    · have h := hl _ (hb.symm.trans he)
      have h : 1 + p.val ≤ p.val := h
      omega
    · exact hs (he.symm.trans hb)

/-- The attention weight of a row of a block. -/
def weight (x1 : Vec Ideal S512x128 .f32) (x2 : Vec Ideal S1x128 .f32) (x3 : Vec Ideal S1x1 .f32) (p : Fin 512) : EReal :=
  Ideal.logistic (∑ k : Fin 128, x1 (ix2 p k) * x2 (ix2 0 k) + x3 (ix2 0 0))

/-- One step of the sums adds the weighted rows of the block with id `s`. -/
theorem sumStep_apply (x0 : Vec Ideal S1x1x512 .i32) (x1 : Vec Ideal S512x128 .f32) (x2 : Vec Ideal S1x128 .f32) (x3 : Vec Ideal S1x1 .f32)
    (acc : Vec Ideal S1024x128 .f32) (s : Fin 1024) (d : Fin 128) :
    sumStep x0 x1 x2 x3 acc (ix2 s d)
      = acc (ix2 s d) + ∑ p : Fin 512, if idOf x0 p = seg s then weight x1 x2 x3 p * x1 (ix2 p d) else 0 := by
  pointwise [sumStep, k0_pay8, k0_pay5]
  refine Ideal.add_congr rfl (Finset.sum_congr rfl fun p _ => ?_)
  rw [member_apply]
  split
  · exact one_mul _
  · exact zero_mul _

/-- One step of the maxima joins the block's rows with id `s`, when they stand together: stated by the upper bounds of the result. -/
theorem maxStep_le (x0 : Vec Ideal S1x1x512 .i32) (x1 : Vec Ideal S512x128 .f32) (acc : Vec Ideal S1024x128 .f32) (s : Fin 1024)
    (ht : Together (idOf x0) (seg s)) (d : Fin 128) (b : EReal) :
    (maxStep x0 x1 acc (ix2 s d) : EReal) ≤ b ↔ acc (ix2 s d) ≤ b ∧ ∀ p : Fin 512, idOf x0 p = seg s → x1 (ix2 p d) ≤ b := by
  have hread : (maxStep x0 x1 acc (ix2 s d) : EReal) =
      if (0 : EReal) < ∑ p : Fin 512, (if idOf x0 p = seg s ∧ idOf x0 p ≠ below (idOf x0) p then (1 : EReal) else 0) then
        max (acc (ix2 s d)) (∑ p : Fin 512, if idOf x0 p = seg s ∧ idOf x0 p ≠ below (idOf x0) p then scanned x0 x1 (ix2 p d) else (0 : EReal))
      else acc (ix2 s d) := by
    have hm : ∀ p : Fin 512, (k0_pay7 (F := Ideal) x0 (ix2 s p) : EReal) * k0_pay15 (F := Ideal) (k0_pay9 (F := Ideal) x0) (ix2 0 p)
        = if idOf x0 p = seg s ∧ idOf x0 p ≠ below (idOf x0) p then (1 : EReal) else 0 := by
      intro p
      rw [member_apply, last_row_apply]
      by_cases h1 : idOf x0 p = seg s <;> by_cases h2 : idOf x0 p ≠ below (idOf x0) p <;> simp [h1, h2]
    pointwise [maxStep, k0_pay1]
    simp only [hm, last_apply]
    congr 2
    refine Finset.sum_congr rfl fun p _ => ?_
    by_cases h1 : idOf x0 p = seg s ∧ idOf x0 p ≠ below (idOf x0) p
    · rw [if_pos h1, if_pos h1, if_pos h1.2, if_pos zero_lt_one]; exact one_mul _
    · rw [if_neg h1, if_neg h1]; exact zero_mul _
  rw [hread]
  by_cases hex : ∃ p : Fin 512, idOf x0 p = seg s
  · obtain ⟨e, he, hl⟩ : ∃ e : Fin 512, idOf x0 e = seg s ∧ ∀ q, idOf x0 q = seg s → q ≤ e := by
      have hne : (Finset.univ.filter fun p : Fin 512 => idOf x0 p = seg s).Nonempty := by
        obtain ⟨p, hp⟩ := hex
        exact ⟨p, Finset.mem_filter.2 ⟨Finset.mem_univ _, hp⟩⟩
      refine ⟨Finset.max' _ hne, (Finset.mem_filter.1 (Finset.max'_mem _ hne)).2, fun q hq => ?_⟩
      exact Finset.le_max' (Finset.univ.filter fun p : Fin 512 => idOf x0 p = seg s) q (Finset.mem_filter.2 ⟨Finset.mem_univ _, hq⟩)
    simp only [member_last_iff (seg_ne s) ht he hl, Finset.sum_ite_eq', Finset.mem_univ, if_true, zero_lt_one, max_le_iff]
    refine and_congr Iff.rfl ?_
    rw [scanned_runMax x0 x1 (seg s) (seg_ne s) ht d e he b]
    constructor
    · intro h p hp
      exact h p (hl p hp) (by have := e.isLt; omega) hp
    · intro h p _ _ hp
      exact h p hp
  · have hno : ∀ p : Fin 512, ¬(idOf x0 p = seg s ∧ idOf x0 p ≠ below (idOf x0) p) := fun p hp => hex ⟨p, hp.1⟩
    simp only [hno, if_false, Finset.sum_const_zero, lt_irrefl]
    constructor
    · intro h
      exact ⟨h, fun p hp => (hex ⟨p, hp⟩).elim⟩
    · exact fun h => h.1

/-- The sums start at 0. -/
theorem zeros_apply (j : S1024x128.Idx) : (k0_pay3 (F := Ideal) j : EReal) = 0 := by
  pointwise [k0_pay3]

/-- The maxima start at −∞. -/
theorem negInfs_apply (j : S1024x128.Idx) : (k0_pay4 (F := Ideal) j : EReal) = ⊥ := by
  pointwise [k0_pay4]
  exact negInf

end Cert.KernelIdeal.Hand

end
-- ==== Proof.Blocks.lean ====
/-
  The blocks the kernel's body reads at a point, in terms of the arguments: rows `512 t … 512 t + 511` of the features and of the ids, each padded to 100352 rows
  (features with 0, ids with 1024), and the two weight arrays and two biases, whole.
-/
module

public import proofs.«01_k».proof.Proof.Step
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pointwise

section
variable {F : FTy → Type} [FloatOps F]
variable (m : (ℓ : Loc nD τ sig) → Buf (Elt F) ℓ) (c : Dev nD)

/-- The padded features as the kernel finds them. -/
theorem V_feats : V m c main_v0 = pad S100352x128 ![0, 0] ![352, 0] ![0, 0] (m ((c : Thread nD τ).loc main_arg0)) (sitofp .f32 (constantI S_ 32 0#32)) pads_S100000x128_S100352x128_03520_000 h_S_ := by
  simp only [V, hostOps0, hostOps0_1, hostOps0_2, hostOps0_3, hostOps0_4, List.flatten_cons, List.flatten_nil, List.append_nil, List.cons_append, List.nil_append]
  after_results
  rfl

/-- The padded ids as the kernel finds them, in rows of 512. -/
theorem V_ids : V m c main_v2 = shapeCast S196x1x512 (pad S100352 ![0] ![352] ![0] (m ((c : Thread nD τ).loc main_arg1)) (constantI S_ 32 1024#32) pads_S100000_S100352_03520 h_S_) shapeCasts_S100352_S196x1x512 := by
  simp only [V, hostOps0, hostOps0_1, hostOps0_2, hostOps0_3, hostOps0_4, List.flatten_cons, List.flatten_nil, List.append_nil, List.cons_append, List.nil_append]
  after_results
  rfl

/-- The attention weights as a row. -/
theorem V_waw : V m c main_v3 = shapeCast S1x128 (m ((c : Thread nD τ).loc main_arg2)) shapeCasts_S128x1_S1x128 := by
  simp only [V, hostOps0, hostOps0_1, hostOps0_2, hostOps0_3, hostOps0_4, List.flatten_cons, List.flatten_nil, List.append_nil, List.cons_append, List.nil_append]
  after_results
  rfl

/-- The attention bias. -/
theorem V_baw : V m c main_v4 = shapeCast S1x1 (m ((c : Thread nD τ).loc main_arg3)) shapeCasts_S1_S1x1 := by
  simp only [V, hostOps0, hostOps0_1, hostOps0_2, hostOps0_3, hostOps0_4, List.flatten_cons, List.flatten_nil, List.append_nil, List.cons_append, List.nil_append]
  after_results
  rfl

/-- The output bias as a row. -/
theorem V_blin : V m c main_v5 = shapeCast S1x128 (m ((c : Thread nD τ).loc main_arg5)) shapeCasts_S128_S1x128 := by
  simp only [V, hostOps0, hostOps0_1, hostOps0_2, hostOps0_3, hostOps0_4, List.flatten_cons, List.flatten_nil, List.append_nil, List.cons_append, List.nil_append]
  after_results
  rfl
end

variable (m : (ℓ : Loc nD τ sig) → Buf (Elt Ideal) ℓ) (c : Dev nD)

/-- The id of padded row `n`. -/
def rowId (n : Nat) : BitVec 32 := if h : n < 100000 then (m ((c : Thread nD τ).loc main_arg1)) (ix1 ⟨n, h⟩) else 1024#32

/-- Feature `d` of padded row `n`. -/
def rowVal (n : Nat) (d : Fin 128) : EReal := if h : n < 100000 then (m ((c : Thread nD τ).loc main_arg0)) (ix2 ⟨n, h⟩ d) else 0

/-- Where the two moving windows stand at a point, and that the others stand still. -/
theorem index_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 ∧ win0_2.index t (0 : Fin 2) = 0 ∧ win0_2.index t (1 : Fin 2) = 0
    ∧ win0_3.index t (0 : Fin 2) = 0 ∧ win0_3.index t (1 : Fin 2) = 0 ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The ids block at point `t`. -/
theorem ids_block (t : Fin cfg0.N) (p : Fin 512) : idOf (iblk m c 0 t) p = rowId m c (512 * t.val + p.val) := by
  have hN : cfg0.N = 196 := N_0
  have ht : t.val < 196 := hN ▸ t.isLt
  have hi := index_facts t
  unfold idOf iblk
  rw [View.read_apply]
  show V m c main_v2 _ = _
  have e : (((cfg0.win 0).blk t).view.emb (ix3 0 0 p) : S196x1x512.Idx) = ix3 ⟨t.val, ht⟩ 0 p := funext fun a => Fin.ext (by
    match a with
    | ⟨0, _⟩ => show win0_0.index t (0 : Fin 3) * 1 + 1 * 0 = t.val; rw [hi.1]; omega
    | ⟨1, _⟩ => show win0_0.index t (1 : Fin 3) * 1 + 1 * 0 = 0; rw [hi.2.1]
    | ⟨2, _⟩ => show win0_0.index t (2 : Fin 3) * 512 + 1 * p.val = p.val; rw [hi.2.2.1]; omega)
  refine (congrArg (V m c main_v2) e).trans ?_
  rw [V_ids]
  pointwise
  unfold rowId
  by_cases h : 512 * t.val + p.val < 100000
  · rw [dif_pos h, dif_pos (fun a => by
      match a with
      | ⟨0, _⟩ => show t.val * 512 + p.val < 100000; omega)]
    exact congrArg (m (c.tc.loc main_arg1)) (congrArg ix1 (Fin.ext (show t.val * 512 + p.val = 512 * t.val + p.val by omega)))
  · rw [dif_neg h, dif_neg (fun q => h (by
      have : t.val * 512 + p.val < 100000 := q 0
      omega))]

/-- The features block at point `t`. -/
theorem feats_block (t : Fin cfg0.N) (p : Fin 512) (d : Fin 128) : (iblk m c 1 t : Vec Ideal S512x128 .f32) (ix2 p d) = rowVal m c (512 * t.val + p.val) d := by
  have hN : cfg0.N = 196 := N_0
  have ht : t.val < 196 := hN ▸ t.isLt
  have hi := index_facts t
  unfold iblk
  rw [View.read_apply]
  have e : (((cfg0.win 1).blk t).view.emb (ix2 p d) : S100352x128.Idx) = ix2 ⟨512 * t.val + p.val, by omega⟩ d := funext fun a => Fin.ext (by
    match a with
    | ⟨0, _⟩ => show win0_1.index t (0 : Fin 2) * 512 + 1 * p.val = 512 * t.val + p.val; rw [hi.2.2.2.1]; omega
    | ⟨1, _⟩ => show win0_1.index t (1 : Fin 2) * 128 + 1 * d.val = d.val; rw [hi.2.2.2.2.1]; omega)
  refine (congrArg (V m c main_v0) e).trans ?_
  rw [V_feats]
  pointwise
  unfold rowVal
  by_cases h : 512 * t.val + p.val < 100000
  · rw [dif_pos h, dif_pos (fun a => by
      match a with
      | ⟨0, _⟩ => refine ⟨Nat.zero_le _, Nat.mod_one _, ?_⟩; show (512 * t.val + p.val - 0) / (0 + 1) < 100000; omega
      | ⟨1, _⟩ => refine ⟨Nat.zero_le _, Nat.mod_one _, ?_⟩; show (d.val - 0) / (0 + 1) < 128; omega)]
  · rw [dif_neg h, dif_neg (fun q => h (by
      have : (512 * t.val + p.val - 0) / (0 + 1) < 100000 := (q 0).2.2
      omega))]
    show (((0#32).toInt : ℝ) : EReal) = 0
    rw [show (0#32).toInt = 0 by decide]
    norm_num

/-- The attention weights block is the argument as a row, at every point. -/
theorem waw_block (t : Fin cfg0.N) (k : Fin 128) : (iblk m c 2 t : Vec Ideal S1x128 .f32) (ix2 0 k) = (m ((c : Thread nD τ).loc main_arg2)) (ix2 k 0) := by
  have hi := index_facts t
  unfold iblk
  rw [View.read_apply]
  have e : (((cfg0.win 2).blk t).view.emb (ix2 0 k) : S1x128.Idx) = ix2 0 k := funext fun a => Fin.ext (by
    match a with
    | ⟨0, _⟩ => show win0_2.index t (0 : Fin 2) * 1 + 1 * 0 = 0; rw [hi.2.2.2.2.2.1]
    | ⟨1, _⟩ => show win0_2.index t (1 : Fin 2) * 128 + 1 * k.val = k.val; rw [hi.2.2.2.2.2.2.1]; omega)
  refine (congrArg (V m c main_v3) e).trans ?_
  rw [V_waw]
  pointwise

/-- The attention bias block is the argument, at every point. -/
theorem baw_block (t : Fin cfg0.N) : (iblk m c 3 t : Vec Ideal S1x1 .f32) (ix2 0 0) = (m ((c : Thread nD τ).loc main_arg3)) (ix1 0) := by
  have hi := index_facts t
  unfold iblk
  rw [View.read_apply]
  have e : (((cfg0.win 3).blk t).view.emb (ix2 0 0) : S1x1.Idx) = ix2 0 0 := funext fun a => Fin.ext (by
    match a with
    | ⟨0, _⟩ => show win0_3.index t (0 : Fin 2) * 1 + 1 * 0 = 0; rw [hi.2.2.2.2.2.2.2.1]
    | ⟨1, _⟩ => show win0_3.index t (1 : Fin 2) * 1 + 1 * 0 = 0; rw [hi.2.2.2.2.2.2.2.2.1])
  refine (congrArg (V m c main_v4) e).trans ?_
  rw [V_baw]
  pointwise

/-- The output weights block is the argument, at every point. -/
theorem wlin_block (t : Fin cfg0.N) (k : Fin 256) (d : Fin 128) : (iblk m c 4 t : Vec Ideal S256x128 .f32) (ix2 k d) = (m ((c : Thread nD τ).loc main_arg4)) (ix2 k d) := by
  have hi := index_facts t
  unfold iblk
  rw [View.read_apply]
  have e : (((cfg0.win 4).blk t).view.emb (ix2 k d) : S256x128.Idx) = ix2 k d := funext fun a => Fin.ext (by
    match a with
    | ⟨0, _⟩ => show win0_4.index t (0 : Fin 2) * 256 + 1 * k.val = k.val; rw [hi.2.2.2.2.2.2.2.2.2.1]; omega
    | ⟨1, _⟩ => show win0_4.index t (1 : Fin 2) * 128 + 1 * d.val = d.val; rw [hi.2.2.2.2.2.2.2.2.2.2.1]; omega)
  refine (congrArg (V m c main_arg4) e).trans ?_
  rw [V_main_arg4]

/-- The output bias block is the argument as a row, at every point. -/
theorem blin_block (t : Fin cfg0.N) (d : Fin 128) : (iblk m c 5 t : Vec Ideal S1x128 .f32) (ix2 0 d) = (m ((c : Thread nD τ).loc main_arg5)) (ix1 d) := by
  have hi := index_facts t
  unfold iblk
  rw [View.read_apply]
  have e : (((cfg0.win 5).blk t).view.emb (ix2 0 d) : S1x128.Idx) = ix2 0 d := funext fun a => Fin.ext (by
    match a with
    | ⟨0, _⟩ => show win0_5.index t (0 : Fin 2) * 1 + 1 * 0 = 0; rw [hi.2.2.2.2.2.2.2.2.2.2.2.1]
    | ⟨1, _⟩ => show win0_5.index t (1 : Fin 2) * 128 + 1 * d.val = d.val; rw [hi.2.2.2.2.2.2.2.2.2.2.2.2]; omega)
  refine (congrArg (V m c main_v5) e).trans ?_
  rw [V_blin]
  pointwise

end Cert.KernelIdeal.Hand

end
-- ==== Proof.Accumulated.lean ====
/-
  What the two accumulators hold after any number of points, and what the result array holds at the end. After `n` points the sums are the weighted sums, and the
  maxima the maxima, over the first `512 n` padded rows; the result is the two accumulators after all 196 points, side by side, times the output weights, plus the bias.
-/
module

public import proofs.«01_k».proof.Proof.Blocks
public import proofs.«01_k».proof.Proof.Gen.KernelIdeal.Value

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pointwise

variable (m : (ℓ : Loc nD τ sig) → Buf (Elt Ideal) ℓ) (c : Dev nD)

/-- The attention weight of padded row `n`. -/
def rowWeight (n : Nat) : EReal :=
  Ideal.logistic (∑ k : Fin 128, rowVal m c n k * (m ((c : Thread nD τ).loc main_arg2)) (ix2 k 0) + (m ((c : Thread nD τ).loc main_arg3)) (ix1 0))

/-- The ids do not decrease over the rows of the argument (read signed). -/
def Sorted : Prop := ∀ i j : Nat, i ≤ j → j < 100000 → (rowId m c i).toInt ≤ (rowId m c j).toInt

/-- A padded row of a segment is a row of the argument. -/
theorem lt_of_rowId {r : Nat} {s : Fin 1024} (h : rowId m c r = seg s) : r < 100000 := by
  by_contra hge
  unfold rowId at h
  rw [dif_neg hge] at h
  have := congrArg BitVec.toNat h
  simp only [BitVec.toNat_ofNat] at this
  have := s.isLt
  omega

/-- When the ids are sorted, the rows of one segment stand together in every block. -/
theorem Sorted.together (hs : Sorted m c) (t : Fin cfg0.N) (s : Fin 1024) : Together (idOf (iblk m c 0 t)) (seg s) := by
  intro i k l hik hkl hi hl
  rw [ids_block] at hi hl ⊢
  have hik : i.val ≤ k.val := hik
  have hkl : k.val ≤ l.val := hkl
  have hlt : 512 * t.val + l.val < 100000 := lt_of_rowId m c hl
  have h1 := hs (512 * t.val + i.val) (512 * t.val + k.val) (by omega) (by omega)
  have h2 := hs (512 * t.val + k.val) (512 * t.val + l.val) (by omega) hlt
  rw [hi] at h1
  rw [hl] at h2
  exact BitVec.eq_of_toInt_eq (le_antisymm h2 h1)

/-- `x` holds the weighted sums over the first `512 n` padded rows. -/
def SumAt (n : Nat) (x : Vec Ideal S1024x128 .f32) : Prop :=
  ∀ (s : Fin 1024) (d : Fin 128), x (ix2 s d) = ∑ r ∈ Finset.range (512 * n), if rowId m c r = seg s then rowWeight m c r * rowVal m c r d else 0

/-- `x` holds the maxima over the first `512 n` padded rows (stated by upper bounds, so −∞ where a segment has no row). -/
def MaxAt (n : Nat) (x : Vec Ideal S1024x128 .f32) : Prop :=
  ∀ (s : Fin 1024) (d : Fin 128) (b : EReal), x (ix2 s d) ≤ b ↔ ∀ r < 512 * n, rowId m c r = seg s → rowVal m c r d ≤ b

/-- The sums before the first point. -/
theorem sumAt_zero : SumAt m c 0 (k0_pay3 (F := Ideal)) := by
  intro s d
  rw [zeros_apply]
  rfl

/-- The maxima before the first point. -/
theorem maxAt_zero : MaxAt m c 0 (k0_pay4 (F := Ideal)) := by
  intro s d b
  rw [negInfs_apply]
  exact ⟨fun _ r hr => absurd hr (by omega), fun _ => bot_le⟩

/-- One point takes the sums over `t` blocks to the sums over `t + 1` blocks. -/
theorem SumAt.step {t : Fin cfg0.N} {x : Vec Ideal S1024x128 .f32} (h : SumAt m c t.val x) :
    SumAt m c (t.val + 1) (sumStep (iblk m c 0 t) (iblk m c 1 t) (iblk m c 2 t) (iblk m c 3 t) x) := by
  intro s d
  rw [sumStep_apply, h s d, Nat.mul_succ, Finset.sum_range_add]
  refine Ideal.add_congr rfl ((Finset.sum_congr rfl fun p _ => ?_).trans (Finset.sum_range _).symm)
  rw [ids_block, feats_block]
  have hw : weight (iblk m c 1 t) (iblk m c 2 t) (iblk m c 3 t) p = rowWeight m c (512 * t.val + p.val) := by
    unfold weight rowWeight
    simp only [feats_block, waw_block, baw_block]
  rw [hw]

/-- One point takes the maxima over `t` blocks to the maxima over `t + 1` blocks. -/
theorem MaxAt.step (hs : Sorted m c) {t : Fin cfg0.N} {x : Vec Ideal S1024x128 .f32} (h : MaxAt m c t.val x) :
    MaxAt m c (t.val + 1) (maxStep (iblk m c 0 t) (iblk m c 1 t) x) := by
  intro s d b
  rw [maxStep_le _ _ _ _ (hs.together m c t s), h s d b]
  simp only [ids_block, feats_block]
  constructor
  · rintro ⟨h1, h2⟩ r hr hi
    by_cases hlt : r < 512 * t.val
    · exact h1 r hlt hi
    · have e : 512 * t.val + (⟨r - 512 * t.val, by omega⟩ : Fin 512).val = r := by dsimp only; omega
      have := h2 ⟨r - 512 * t.val, by omega⟩
      rw [e] at this
      exact this hi
  · intro hall
    exact ⟨fun r hr hi => hall r (by omega) hi, fun p hi => hall _ (by have := p.isLt; omega) hi⟩

/-- After point `n` the accumulators are those over `n + 1` blocks, at every point but the last. -/
theorem accumulated (hs : Sorted m c) : ∀ (n : Nat) (hn : n < cfg0.N), n < 195 →
    SumAt m c (n + 1) (outsAt0 m c n hn).2.1 ∧ MaxAt m c (n + 1) (outsAt0 m c n hn).2.2
  | 0, hn, _ => by
    rw [outsAt0_A m c ⟨0, hn⟩ rfl (by dsimp only; omega)]
    dsimp only
    rw [sum_A, max_A]
    exact ⟨SumAt.step m c (t := ⟨0, hn⟩) (sumAt_zero m c), MaxAt.step m c hs (t := ⟨0, hn⟩) (maxAt_zero m c)⟩
  | n + 1, hn, hlt => by
    obtain ⟨h1, h2⟩ := accumulated hs n (Nat.lt_of_succ_lt hn) (by omega)
    rw [outsAt0_B m c ⟨n + 1, hn⟩ (by dsimp only; omega) (by dsimp only; omega)]
    dsimp only
    rw [sum_B, max_B]
    exact ⟨SumAt.step m c (t := ⟨n + 1, hn⟩) h1, MaxAt.step m c hs (t := ⟨n + 1, hn⟩) h2⟩

/-- The output of the last point: the two accumulators side by side, times the weights, plus the bias. -/
theorem out_apply (sm mx : Vec Ideal S1024x128 .f32) (x4 : Vec Ideal S256x128 .f32) (x5 : Vec Ideal S1x128 .f32) (s : Fin 1024) (o : Fin 128) :
    (k0_pay2 sm mx x4 x5 (ix2 s o) : EReal)
      = ∑ k : Fin 128, sm (ix2 s k) * x4 (ix2 ⟨k.val, by omega⟩ o) + ∑ k : Fin 128, mx (ix2 s k) * x4 (ix2 ⟨128 + k.val, by omega⟩ o) + x5 (ix2 0 o) := by
  pointwise [k0_pay2]

/-- What the last point stores: the accumulators over all the blocks, side by side, times the output weights, plus the output bias. -/
theorem last_point (hs : Sorted m c) : ∀ (n : Nat) (hn : n < cfg0.N), n = 195 → ∃ sm mx : Vec Ideal S1024x128 .f32, SumAt m c (n + 1) sm ∧ MaxAt m c (n + 1) mx ∧
    ∀ (s : Fin 1024) (o : Fin 128), ((outsAt0 m c n hn).1 (ix2 s o) : EReal)
      = ∑ k : Fin 128, sm (ix2 s k) * (m ((c : Thread nD τ).loc main_arg4)) (ix2 ⟨k.val, by omega⟩ o)
        + ∑ k : Fin 128, mx (ix2 s k) * (m ((c : Thread nD τ).loc main_arg4)) (ix2 ⟨128 + k.val, by omega⟩ o) + (m ((c : Thread nD τ).loc main_arg5)) (ix1 o)
  | 0, _, h => absurd h (by decide)
  | n + 1, hn, h => by
    obtain ⟨h1, h2⟩ := accumulated m c hs n (Nat.lt_of_succ_lt hn) (by omega)
    refine ⟨_, _, SumAt.step m c (t := ⟨n + 1, hn⟩) h1, MaxAt.step m c hs (t := ⟨n + 1, hn⟩) h2, fun s o => ?_⟩
    rw [outsAt0_C m c ⟨n + 1, hn⟩ (by dsimp only; omega) (by dsimp only; omega)]
    dsimp only
    rw [out_C, out_apply]
    refine Ideal.add_congr (Ideal.add_congr (Finset.sum_congr rfl fun k _ => ?_) (Finset.sum_congr rfl fun k _ => ?_)) (blin_block m c _ o) <;>
      exact congrArg (_ * ·) (wlin_block m c _ _ o)

/-- The result array of the kernel, at every segment and output feature. -/
theorem result (hs : Sorted m c) : ∃ sm mx : Vec Ideal S1024x128 .f32, SumAt m c 196 sm ∧ MaxAt m c 196 mx ∧
    ∀ (s : Fin 1024) (o : Fin 128), (Value.G6 m c (ix2 s o) : EReal)
      = ∑ k : Fin 128, sm (ix2 s k) * (m ((c : Thread nD τ).loc main_arg4)) (ix2 ⟨k.val, by omega⟩ o)
        + ∑ k : Fin 128, mx (ix2 s k) * (m ((c : Thread nD τ).loc main_arg4)) (ix2 ⟨128 + k.val, by omega⟩ o) + (m ((c : Thread nD τ).loc main_arg5)) (ix1 o) := by
  have hN : cfg0.N = 196 := N_0
  rw [Value.G6_last, ← Value.outsAt0_sweep m c 195 (by omega)]
  exact last_point m c hs 195 _ rfl

end Cert.KernelIdeal.Hand

end
-- ==== Proof.Reference.lean ====
/-
  What the reference computes: at each segment the weighted sum and the maximum of that segment's rows (the rows whose id is the segment's number), then the two side
  by side times the output weights plus the bias.
-/
module

public import proofs.«01_k».proof.Proof.Gen.ReferenceIdeal.Read
public import proofs.«01_k».proof.Proof.Step
public import Idealize.ShloMosaic.Lib.Routing.OpsPair

@[expose] public section

set_option maxRecDepth 16384

noncomputable section

namespace Cert.ReferenceIdeal.Hand

open Cert.ReferenceIdeal Cert.ReferenceIdeal.Read
open Cert.KernelIdeal.Hand (seg negInf select_cmpi_eq)
open Idealize.ShloMosaic Idealize.ShloMosaic.TcCoe
open Idealize.ShloMosaic.Pointwise

variable (x0 : FVec Ideal S100000x128 .f32) (x1 : IVec S100000 32) (x2 : FVec Ideal S128x1 .f32) (x3 : FVec Ideal S1 .f32)
  (x4 : FVec Ideal S256x128 .f32) (x5 : FVec Ideal S128 .f32)

/-- A 32-bit word read signed is a segment's number exactly when it is that number's word. -/
theorem toInt_eq_iff (w : BitVec 32) (s : Fin 1024) : w.toInt = (s.val : Int) ↔ w = seg s := by
  have hs : (seg s).toInt = (s.val : Int) := StableHlo.Predicate.toInt_ofNat_small _ (by have := s.isLt; omega)
  rw [← hs]
  exact BitVec.toInt_inj

/-- Row `p`'s entry `e` is added at segment `s`, feature `d`, exactly when the row's id is `s` and `e` is `d`. -/
theorem lands (p : Fin 100000) (e : Fin 128) (s : Fin 1024) (d : Fin 128) (idx : IVec S100000x1 32) :
    scatter_S1024x128_S100000x1_S100000x128_1_0_0_1.resultIdx? (ix2 p e) idx = some (ix2 s d) ↔ idx (ix2 p 0) = seg s ∧ e = d := by
  have h := Routing.resultIdx?_ix2 scatter_S1024x128_S100000x1_S100000x128_1_0_0_1 (ix2 p e) idx s d
  rw [← ix2_eq_valueIdx] at h
  rw [h]
  have hs0 : scatter_S1024x128_S100000x1_S100000x128_1_0_0_1.start (ix2 p e) idx 0 = (idx (ix2 p 0)).toInt := by
    unfold ScatterDims.start
    rw [dif_pos (by decide)]
    refine congrArg (fun i => (idx i).toInt) (funext fun b => Fin.ext ?_)
    match b with
    | ⟨0, _⟩ => rfl
    | ⟨1, _⟩ => rfl
  have hs1 : scatter_S1024x128_S100000x1_S100000x128_1_0_0_1.start (ix2 p e) idx 1 = 0 := by
    unfold ScatterDims.start
    rw [dif_neg (by decide)]
  have hw0 : scatter_S1024x128_S100000x1_S100000x128_1_0_0_1.window (ix2 p e) 0 = 0 := rfl
  have hw1 : scatter_S1024x128_S100000x1_S100000x128_1_0_0_1.window (ix2 p e) 1 = e.val := rfl
  rw [hs0, hs1, hw0, hw1, ← toInt_eq_iff, Fin.ext_iff]
  omega

/-- The attention weight of row `p`. -/
def refWeight (p : Fin 100000) : EReal := Ideal.logistic (∑ k : Fin 128, x0 (ix2 p k) * x2 (ix2 k 0) + x3 (ix1 0))

/-- An index of a matrix of features is a row and a feature. -/
theorem exists_ix2 (j : S100000x128.Idx) : ∃ (p : Fin 100000) (e : Fin 128), j = ix2 p e :=
  ⟨j 0, j 1, funext fun k => match k with
    | ⟨0, _⟩ => rfl
    | ⟨1, _⟩ => rfl⟩

/-- A row of weighted features. -/
theorem weighted_apply (p : Fin 100000) (d : Fin 128) : val_main_v11 (F := Ideal) x0 x2 x3 (ix2 p d) = refWeight x0 x2 x3 p * x0 (ix2 p d) := by
  unfold refWeight
  pointwise [val_main_v11, val_main_v10, val_main_v9, val_main_v8, val_main_v7, val_main_v6, val_main_v5, val_main_v4, val_main_v3, val_main_v2, val_main_v1,
    val_main_v0, val_main_cst, val_main_cst_0]
  rfl

/-- The weighted sum over a segment's rows. -/
theorem sums_apply (s : Fin 1024) (d : Fin 128) :
    val_main_v14 (F := Ideal) x0 x1 x2 x3 (ix2 s d) = ∑ p : Fin 100000, if x1 (ix1 p) = seg s then refWeight x0 x2 x3 p * x0 (ix2 p d) else 0 := by
  have hz : val_main_v12 (F := Ideal) (ix2 s d) = 0 := by
    pointwise [val_main_v12, val_main_cst_1]
  have hid : ∀ p : Fin 100000, val_main_v13 (F := Ideal) x1 (ix2 p 0) = x1 (ix1 p) := fun p => by
    pointwise [val_main_v13]
  have hall : val_main_v14 (F := Ideal) x0 x1 x2 x3 (ix2 s d) = val_main_v12 (F := Ideal) (ix2 s d)
      + ∑ j ∈ Finset.univ.filter (fun j => scatter_S1024x128_S100000x1_S100000x128_1_0_0_1.resultIdx? j (val_main_v13 (F := Ideal) x1) = some (ix2 s d)),
        val_main_v11 (F := Ideal) x0 x2 x3 j := rfl
  rw [hall, hz, zero_add, ← Finset.sum_filter]
  refine Finset.sum_nbij' (fun j => j 0) (fun p => ix2 p d) ?_ ?_ ?_ ?_ ?_
  · intro j hj
    obtain ⟨p, e, rfl⟩ := exists_ix2 j
    rw [Finset.mem_filter, lands, hid] at hj
    exact Finset.mem_filter.2 ⟨Finset.mem_univ _, hj.2.1⟩
  · intro p hp
    rw [Finset.mem_filter, lands, hid]
    exact ⟨Finset.mem_univ _, (Finset.mem_filter.1 hp).2, rfl⟩
  · intro j hj
    obtain ⟨p, e, rfl⟩ := exists_ix2 j
    rw [Finset.mem_filter, lands] at hj
    exact congrArg (ix2 p) hj.2.2.symm
  · intro p _
    rfl
  · intro j hj
    obtain ⟨p, e, rfl⟩ := exists_ix2 j
    rw [Finset.mem_filter, lands] at hj
    rw [weighted_apply, hj.2.2]
    rfl

/-- The maximum over a segment's rows, by its upper bounds. -/
theorem maxima_le (s : Fin 1024) (d : Fin 128) (b : EReal) :
    val_main_v23 (F := Ideal) x0 x1 (ix2 s d) ≤ b ↔ ∀ p : Fin 100000, x1 (ix1 p) = seg s → x0 (ix2 p d) ≤ b := by
  pointwise [val_main_v23, val_main_v22, val_main_call0_v1, val_main_call0_v2, val_main_call0_v3, val_main_call0_v0, val_main_v21, val_main_v20, val_main_v19, val_main_v18, val_main_v17, val_main_v16, val_main_v15, val_main_cst_2, val_main_cst_3]
  rw [Finset.fold_max_le, negInf]
  simp only [select_cmpi_eq, Finset.mem_univ, true_implies]
  constructor
  · intro h p hp
    have := h.2 p
    rwa [if_pos hp] at this
  · intro h
    refine ⟨bot_le, fun p => ?_⟩
    split
    · next hp => exact h p hp
    · exact (show Ideal.ofBits .f32 0xFF800000#32 ≤ b by rw [negInf]; exact bot_le)

/-- The reference's result at a segment and an output feature. -/
theorem ref_apply (s : Fin 1024) (o : Fin 128) :
    val_main_v28 (F := Ideal) x0 x1 x2 x3 x4 x5 (ix2 s o)
      = ∑ k : Fin 128, val_main_v14 (F := Ideal) x0 x1 x2 x3 (ix2 s k) * x4 (ix2 ⟨k.val, by omega⟩ o)
        + ∑ k : Fin 128, val_main_v23 (F := Ideal) x0 x1 (ix2 s k) * x4 (ix2 ⟨128 + k.val, by omega⟩ o) + x5 (ix1 o) := by
  pointwise [val_main_v28, val_main_v27, val_main_v26, val_main_v25, val_main_v24]

end Cert.ReferenceIdeal.Hand

end
-- ==== Proof.Equation.lean ====
/-
  The equation: for sorted ids the kernel's result array is the reference's. The kernel's sums and maxima run over the padded rows; the added rows carry no segment's
  number, so they drop out, and what is left is the reference's.
-/
module

public import proofs.«01_k».proof.Defs
public import proofs.«01_k».proof.Proof.Accumulated
public import proofs.«01_k».proof.Proof.Reference
public import proofs.«01_k».proof.Proof.Gen.Pre_sorted_ids
public import Idealize.ShloMosaic.Lib.ReduceAll

@[expose] public section

set_option maxRecDepth 16384

noncomputable section

namespace Cert.KernelIdeal.Hand

open Cert.KernelIdeal Cert.KernelIdeal.Gen
open Cert.ReferenceIdeal.Read Cert.ReferenceIdeal.Hand
open Idealize.ShloMosaic Idealize.ShloMosaic.TcCoe Idealize.SL.Sem
open Idealize.ShloMosaic.Pointwise

variable (m : (ℓ : Loc nD τ sig) → Buf (Elt Ideal) ℓ) (c : Dev nD)

/-- The precondition says that the ids do not decrease. -/
theorem sorted_of_pre (hp : Pre_KernelIdeal_sorted_ids (hPre_sorted_ids := Cert.Pre_sorted_ids.Gen.facts) m) : Sorted m c := by
  have hstep : ∀ n : Nat, n + 1 < 100000 → (rowId m c n).toInt ≤ (rowId m c (n + 1)).toInt := by
    intro n hn
    have h1 : (IntOp.cmpi .sle (rowId m c n) (rowId m c (n + 1))) = 1#1 := by
      have := Host.reduce_andi_all _ _ _ _ _ (congrFun (hp c) ix0) (ix1 ⟨n, by omega⟩)
      rw [← this]
      unfold rowId
      rw [dif_pos (by omega), dif_pos hn]
      pointwise
      simp only [Nat.add_comm 1 n]
    simpa only [IntOp.cmpi, BitVec.sle, StableHlo.Predicate.ofBool_eq_one_iff, decide_eq_true_eq] using h1
  intro i j hij
  induction j, hij using Nat.le_induction with
  | base => exact fun _ => le_rfl
  | succ j _ ih => exact fun hj => (ih (by omega)).trans (hstep j hj)

/-- The id of a row of the argument. -/
theorem rowId_row (p : Fin 100000) : rowId m c p.val = (m ((c : Thread nD τ).loc main_arg1)) (ix1 p) := dif_pos p.isLt

/-- A feature of a row of the argument. -/
theorem rowVal_row (p : Fin 100000) (d : Fin 128) : rowVal m c p.val d = (m ((c : Thread nD τ).loc main_arg0)) (ix2 p d) := dif_pos p.isLt

/-- The kernel's weight of a row of the argument is the reference's. -/
theorem rowWeight_row (p : Fin 100000) : rowWeight m c p.val
    = refWeight (m ((c : Thread nD τ).loc main_arg0)) (m ((c : Thread nD τ).loc main_arg2)) (m ((c : Thread nD τ).loc main_arg3)) p := by
  unfold rowWeight refWeight
  simp only [rowVal_row]

/-- The kernel's sums over all the padded rows are the reference's. -/
theorem sums_eq {x : Vec Ideal S1024x128 .f32} (h : SumAt m c 196 x) (s : Fin 1024) (d : Fin 128) :
    x (ix2 s d) = val_main_v14 (F := Ideal) (m ((c : Thread nD τ).loc main_arg0)) (m ((c : Thread nD τ).loc main_arg1))
      (m ((c : Thread nD τ).loc main_arg2)) (m ((c : Thread nD τ).loc main_arg3)) (ix2 s d) := by
  rw [h s d, sums_apply]
  have hsub : Finset.range 100000 ⊆ Finset.range (512 * 196) := Finset.range_subset_range.2 (by omega)
  rw [← Finset.sum_subset hsub (fun r _ hr => if_neg fun hi => hr (Finset.mem_range.2 (lt_of_rowId m c hi))), Finset.sum_range]
  refine Finset.sum_congr rfl fun p _ => ?_
  rw [rowId_row, rowWeight_row, rowVal_row]

/-- The kernel's maxima over all the padded rows are the reference's. -/
theorem maxima_eq {x : Vec Ideal S1024x128 .f32} (h : MaxAt m c 196 x) (s : Fin 1024) (d : Fin 128) :
    x (ix2 s d) = val_main_v23 (F := Ideal) (m ((c : Thread nD τ).loc main_arg0)) (m ((c : Thread nD τ).loc main_arg1)) (ix2 s d) := by
  refine eq_of_forall_ge_iff (α := EReal) fun b => ?_
  rw [h s d b, maxima_le]
  constructor
  · intro hall p hp
    have := hall p.val (by have := p.isLt; omega)
    rw [rowId_row, rowVal_row] at this
    exact this hp
  · intro hall r _ hr
    have e := rowVal_row m c ⟨r, lt_of_rowId m c hr⟩ d
    dsimp only at e
    rw [e]
    exact hall _ ((rowId_row m c ⟨r, lt_of_rowId m c hr⟩).symm.trans hr)

/-- The reference's result is the kernel's. -/
theorem equation (hs : Sorted m c) :
    val_main_v28 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = Value.G6 m c := by
  obtain ⟨sm, mx, h1, h2, h3⟩ := result m c hs
  funext j
  obtain ⟨s, o, rfl⟩ : ∃ (s : Fin 1024) (o : Fin 128), j = ix2 s o := ⟨j 0, j 1, funext fun k => match k with
    | ⟨0, _⟩ => rfl
    | ⟨1, _⟩ => rfl⟩
  rw [ref_apply]
  refine Eq.trans ?_ (h3 s o).symm
  refine Ideal.add_congr (Ideal.add_congr (Finset.sum_congr rfl fun k _ => ?_) (Finset.sum_congr rfl fun k _ => ?_)) rfl
  · rw [sums_eq m c h1 s k]
  · rw [maxima_eq m c h2 s k]

end Cert.KernelIdeal.Hand

end
-- ==== Proof.lean ====
/-
  The certificate. Each program runs, leaves its arguments as they were and every semaphore at zero; and for sorted ids the kernel's result, its floats read as
  extended reals, is the reference's.
-/
module

public import proofs.«01_k».proof.Defs
public import proofs.«01_k».proof.Proof.Gen.Kernel.Frame
public import proofs.«01_k».proof.Proof.Gen.KernelIdeal.Value
public import proofs.«01_k».proof.Proof.Gen.Pre_sorted_ids
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference runs, leaves its arguments as they were and every semaphore at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- For sorted ids the kernel and the reference end with equal results, element by element. -/
theorem algebraic_KernelIdeal_ReferenceIdeal : Cert.algebraic_KernelIdeal_ReferenceIdeal_pre_sorted_ids (hPre_sorted_ids := Cert.Pre_sorted_ids.Gen.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5⟩ := hagree c
  rw [(h c).1, Cert.ReferenceIdeal.Read.val_main_v28_eq (F := Ideal), e0, e1, e2, e3, e4, e5]
  exact Cert.KernelIdeal.Hand.equation m c (Cert.KernelIdeal.Hand.sorted_of_pre m c hpre)

/-- Everything the certificate claims. -/
theorem claim : Cert.Claim := ⟨Cert.Kernel.Gen.facts, Cert.KernelIdeal.Gen.facts, Cert.ReferenceIdeal.Gen.facts, Cert.Pre_sorted_ids.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal), algebraic_KernelIdeal_ReferenceIdeal⟩

end Cert.Proof

end
